-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x50 : Shape := ⟨2, ![1024, 50]⟩
abbrev S50x1024 : Shape := ⟨2, ![50, 1024]⟩
abbrev S50x1x1024 : Shape := ⟨3, ![50, 1, 1024]⟩
abbrev S50x1024x1000 : Shape := ⟨3, ![50, 1024, 1000]⟩
abbrev S1x1x256 : Shape := ⟨3, ![1, 1, 256]⟩
abbrev S1x256x1000 : Shape := ⟨3, ![1, 256, 1000]⟩
abbrev S256 : Shape := ⟨1, ![256]⟩
abbrev S256x1000 : Shape := ⟨2, ![256, 1000]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S1024x50, .i32⟩
  | .hbm, ⟨1, _⟩ => ⟨S50x1024, .i32⟩
  | .hbm, ⟨2, _⟩ => ⟨S50x1x1024, .i32⟩
  | .hbm, ⟨3, _⟩ => ⟨S50x1024x1000, .f32⟩
  | .local _ .vmem, ⟨0, _⟩ => ⟨S1x1x256, .i32⟩
  | .local _ .vmem, ⟨1, _⟩ => ⟨S1x1x256, .i32⟩
  | .local _ .vmem, ⟨2, _⟩ => ⟨S1x256x1000, .f32⟩
  | .local _ .vmem, ⟨3, _⟩ => ⟨S1x256x1000, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![50, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference.lean ====
abbrev S1024x50 : Shape := ⟨2, ![1024, 50]⟩
abbrev S1024x50x1 : Shape := ⟨3, ![1024, 50, 1]⟩
abbrev S1x1x1000 : Shape := ⟨3, ![1, 1, 1000]⟩
abbrev S1024x50x1000 : Shape := ⟨3, ![1024, 50, 1000]⟩
abbrev S50x1024x1000 : Shape := ⟨3, ![50, 1024, 1000]⟩

abbrev nBuf : Space → Nat
  | .hbm => 8
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1024x50x1, .i32⟩
  | .hbm, ⟨2, _⟩ => ⟨S1x1x1000, .i32⟩
  | .hbm, ⟨3, _⟩ => ⟨S1024x50x1000, .i32⟩
  | .hbm, ⟨4, _⟩ => ⟨S1024x50x1000, .i32⟩
  | .hbm, ⟨5, _⟩ => ⟨S1024x50x1000, .i1⟩
  | .hbm, ⟨6, _⟩ => ⟨S1024x50x1000, .f32⟩
  | .hbm, ⟨7, _⟩ => ⟨S50x1024x1000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_v1 : Ref sig .tc := ⟨.hbm, 7, rfl⟩

abbrev nD : Nat := 1
abbrev τ : Topo := Topo.v7x

variable {F : FTy → Type} [FloatOps F]
-- ==== Proof.OneHot.lean ====
/-
  The mathematics of the problem, apart from any program: the transposed one-hot encoding of an array of 1024 × 50
  words, and the one fact about number formats that ties the kernel's spelling of "true is 1.0" to the reference's.
-/
module

public import Idealize.ShloMosaic.Lib.Pointwise
public import Idealize.ShloMosaic.PureOps.BitExact

@[expose] public section

noncomputable section

namespace Cert.OneHot

open Idealize.ShloMosaic

/-- One entry of a one-hot row: whether the word `w` is the class `k`, as a float. -/
def flag {F : FTy → Type} [FloatOps F] (w : BitVec 32) (k : ℕ) : F .f32 :=
  FloatOps.uitofp .f32 (IntOp.cmpi .eq w (BitVec.ofNat 32 k))

/-- The encoding: entry `(s, b, k)` tells whether word `(b, s)` of the argument is `k`. -/
def encoding {F : FTy → Type} [FloatOps F] (x : IVec ⟨2, ![1024, 50]⟩ 32) : FVec F ⟨3, ![50, 1024, 1000]⟩ .f32 :=
  fun i => flag (x (ix2 (i 1) (i 0))) (i 2).val

/-- A truth value converted through a signed 32-bit word is the truth value converted directly. The kernel converts
    the first way and the reference the second. -/
def BitConverts (F : FTy → Type) [FloatOps F] : Prop :=
  ∀ b : BitVec 1, FloatOps.sitofp (F := F) .f32 (b.setWidth 32) = FloatOps.uitofp .f32 b

/-- Widening a truth value to 32 bits leaves the number, read signed, the one that it was, read unsigned. -/
theorem toInt_widened : ∀ b : BitVec 1, (b.setWidth 32).toInt = (b.toNat : ℤ) := by decide

/-- The two conversions agree on the extended reals: both are the integer. -/
theorem bitConverts_ideal : BitConverts Ideal := fun b => by
  show (((b.setWidth 32).toInt : ℝ) : EReal) = ((b.toNat : ℝ) : EReal)
  rw [toInt_widened, Int.cast_natCast]

/-- The two conversions agree as float words: both are the nearest float of the same integer. -/
theorem bitConverts_bits : BitConverts Bits := fun b => by
  show Bits.sitofp32 (b.setWidth 32) = Bits.uitofp32 b
  unfold Bits.sitofp32 Bits.uitofp32
  rw [toInt_widened]

end Cert.OneHot

end
-- ==== Proof.KernelValue.lean ====
/-
  What the pipelined kernel leaves in its result array: the transposed one-hot encoding of its argument. The kernel's
  body is read at one index of a block; the host's transpose and reshape, which lay the argument out for the pipeline,
  are read at one index of the window's array; and the 50 × 4 blocks tile the result.
-/
module

public import proofs.«01_k».proof.Proof.OneHot
public import proofs.«01_k».proof.Proof.Gen.KernelIdeal.Value
public import Idealize.ShloMosaic.Lib.Pipeline.ValueKit

@[expose] public section

set_option maxRecDepth 16384

noncomputable section

namespace Cert.KernelIdeal.Encodes

open Cert.KernelIdeal Cert.KernelIdeal.Gen Cert.OneHot
open Idealize.ShloMosaic Idealize.ShloMosaic.TcCoe Idealize.SL.Sem

variable {F : FTy → Type} [FloatOps F]
variable (m : (ℓ : Loc nD τ sig) → Buf (Elt F) ℓ) (ρ : Dev nD → PrngReg)

/-- The body at one entry of its block: row `r` and class `k` hold whether the block's word `r` is `k`. -/
theorem body_entry (hb : BitConverts F) (w : Vec F S1x1x256 .i32) (z : Fin 1) (r : Fin 256) (k : Fin 1000) :
    k0_pay1 w (ix3 z r k) = flag (w (ix3 (0 : Fin 1) (0 : Fin 1) r)) k.val := by
  unfold k0_pay1
  refine (shapeCast_apply _ _ _ (ix2 r k) ?_).trans ?_
  · have hz : z.val < 1 := z.isLt
    rw [Shape.rowMajor_val_two, Shape.rowMajor_val_three]
    show r.val * 1000 + k.val = (z.val * 256 + r.val) * 1000 + k.val
    omega
  refine (hb _).trans ?_
  show FloatOps.uitofp .f32 (IntOp.cmpi .eq _ _) = FloatOps.uitofp .f32 (IntOp.cmpi .eq _ _)
  congr 2
  · refine (broadcastTo_apply _ _ _ (ix2 r (0 : Fin 1)) fun a => ?_).trans ?_
    · match a with
      | ⟨0, _⟩ => rfl
      | ⟨1, _⟩ => rfl
    refine (shapeCast_apply _ _ _ (ix1 r) ?_).trans ?_
    · rw [Shape.rowMajor_val_one, Shape.rowMajor_val_two]
      show r.val = r.val * 1 + 0
      omega
    refine shapeCast_apply _ _ _ _ ?_
    rw [Shape.rowMajor_val_one, Shape.rowMajor_val_three]
    show (0 * 1 + 0) * 256 + r.val = r.val
    omega
  · exact iota_single_apply ..

/-- The window's array at region entry is the argument with its axes exchanged. -/
theorem entry_array (c : Dev nD) (s : Fin 50) (z : Fin 1) (b : Fin 1024) :
    V m c main_v1 (ix3 s z b) = m ((c : Thread nD τ).loc main_arg0) (ix2 b s) := by
  entry_read
  refine (shapeCast_apply _ _ _ (ix2 s b) ?_).trans ?_
  · have hz : z.val < 1 := z.isLt
    rw [Shape.rowMajor_val_two]
    refine Eq.trans ?_ (Shape.rowMajor_val_three (ix3 s z b)).symm
    show s.val * 1024 + b.val = (s.val * 1 + z.val) * 1024 + b.val
    omega
  refine transpose_apply _ _ _ _ _ fun a => ?_
  match a with
  | ⟨0, _⟩ => rfl
  | ⟨1, _⟩ => rfl

/-- Point `t` of the grid stands at row block `(t / 4, t % 4)`, for the argument's window and for the result's. -/
theorem at_point : ∀ t : Fin cfg0.N, win0_0.index t = ![t.val / 4, 0, t.val % 4] ∧ win0_1.index t = ![t.val / 4, t.val % 4, 0] :=
  (by decide +kernel : ∀ t : Fin grid0.N, win0_0.index t = ![t.val / 4, 0, t.val % 4] ∧ win0_1.index t = ![t.val / 4, t.val % 4, 0])

/-- The result array after the run is the encoding of the argument. -/
theorem result_array (hb : BitConverts F) (c : Dev nD) :
    (dats m 0 c).arrAt 1 cfg0.N = encoding (m ((c : Thread nD τ).loc main_arg0)) := by
  refine (dats m 0 c).arrAt_eq_of_covers 1 _ (by decide +kernel) fun t hf y => ?_
  blk_simp
  rw [after0_1]
  frame_out
  obtain ⟨z, r, k, rfl⟩ : ∃ (z : Fin 1) (r : Fin 256) (k : Fin 1000), y = ix3 z r k := ⟨y 0, y 1, y 2, eq_ix3 y⟩
  refine (body_entry hb _ z r k).trans ?_
  unfold encoding
  congr 1
  · blk_simp [iblk, at_point t]
    refine (congrArg (V m c main_v1) (eq_ix3 _)).trans ((entry_array m c _ _ _).trans (congrArg _ ?_))
    blk_ext [at_point t]
  · blk_simp [at_point t]

/-- The kernel's run: it ends with the encoding in the result array and the argument unchanged. -/
theorem run (hb : BitConverts F) : θ_run defs (onTc (τ := τ) (main (F := F))) ⟨m, fun _ => 0, ρ⟩ fun r => ∀ c : Dev nD,
      r.2.mem ((c : Thread nD τ).loc main_v2) = encoding (m ((c : Thread nD τ).loc main_arg0))
      ∧ r.2.mem ((c : Thread nD τ).loc main_arg0) = m ((c : Thread nD τ).loc main_arg0) :=
  (θ_run defs _ _).mono (fun _ h c => ⟨(h c).1.trans (result_array m hb c), (h c).2⟩) (Value.run_blocks m ρ)

end Cert.KernelIdeal.Encodes

end
-- ==== Proof.ReferenceValue.lean ====
/-
  What the reference computes: its two broadcasts, comparison, conversion and transpose, read at one index, are the
  transposed one-hot encoding of its argument.
-/
module

public import proofs.«01_k».proof.Proof.OneHot
public import proofs.«01_k».proof.Proof.Gen.ReferenceIdeal.Run

@[expose] public section

noncomputable section

namespace Cert.ReferenceIdeal.Encodes

open Cert.ReferenceIdeal Cert.ReferenceIdeal.Gen Cert.OneHot
open Idealize.ShloMosaic Idealize.ShloMosaic.TcCoe Idealize.SL.Sem

variable {F : FTy → Type} [FloatOps F]

/-- The reference's operations, composed, are the encoding. -/
theorem composed (x : IVec S1024x50 32) :
    transpose S50x1024x1000 [1, 0, 2] (uitofp (F := F) .f32 (cmpi .eq
      (broadcastInDim S1024x50x1000 ![0, 1, 2] bcast_S1024x50x1_S1024x50x1000_0_1_2
        (broadcastInDim S1024x50x1 ![0, 1] bcast_S1024x50_S1024x50x1_0_1 x))
      (broadcastInDim S1024x50x1000 ![0, 1, 2] bcast_S1x1x1000_S1024x50x1000_0_1_2 (iotaInDim S1x1x1000 32 2))))
      transposes_S1024x50x1000_S50x1024x1000_1_0_2 = encoding x := by
  funext i
  obtain ⟨s, b, k, rfl⟩ : ∃ (s : Fin 50) (b : Fin 1024) (k : Fin 1000), i = ix3 s b k := ⟨i 0, i 1, i 2, eq_ix3 i⟩
  refine (transpose_apply _ _ _ _ (ix3 b s k) fun a => ?_).trans ?_
  · match a with
    | ⟨0, _⟩ => rfl
    | ⟨1, _⟩ => rfl
    | ⟨2, _⟩ => rfl
  refine congrArg (fun w => FloatOps.uitofp .f32 (IntOp.cmpi .eq w (BitVec.ofNat 32 k.val))) ?_
  refine (broadcastInDim_apply _ _ _ _ (ix3 b s (0 : Fin 1)) fun a => ?_).trans
    (broadcastInDim_apply _ _ _ _ (ix2 b s) fun a => ?_)
  · match a with
    | ⟨0, _⟩ => rfl
    | ⟨1, _⟩ => rfl
    | ⟨2, _⟩ => rfl
  · match a with
    | ⟨0, _⟩ => rfl
    | ⟨1, _⟩ => rfl

/-- The reference's run: it ends with the encoding in the result array and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v1) = encoding (m ((c : Thread nD τ).loc main_arg0))
      ∧ r.2.mem ((c : Thread nD τ).loc main_arg0) = m ((c : Thread nD τ).loc main_arg0) :=
  (θ_run defs _ _).mono (fun _ h c => ⟨(h c).1.trans (composed _), (h c).2⟩) (Value.run m ρ)

end Cert.ReferenceIdeal.Encodes

end
-- ==== Proof.SameProgram.lean ====
/-
  The kernel as printed for the float words and as printed for the extended reals is one program, since nothing was
  rewritten: a run of the second, read at the float words, is a run of the first.
-/
module

public import proofs.«01_k».proof.Proof.Gen.Kernel
public import proofs.«01_k».proof.Proof.Gen.KernelIdeal

@[expose] public section

noncomputable section

namespace Cert.SameProgram

open Idealize.ShloMosaic

variable {F : FTy → Type} [FloatOps F]

/-- The two tables of kernel bodies are the same: they have one body, and it is the same text. -/
theorem bodies_eq : Cert.Kernel.defs₀ (F := F) = Cert.KernelIdeal.defs₀ (F := F) := by
  refine congrArg Defs.onTc (funext fun l => funext fun a => ?_)
  match l, a with
  | ⟨0, _⟩, (t, s) => rfl
  | ⟨n + 1, h⟩, _ => exact absurd h (Nat.not_lt.2 (Nat.le_add_left _ _))

/-- So the programs' whole body tables are the same … -/
theorem defs_eq : Cert.Kernel.defs (F := F) = Cert.KernelIdeal.defs (F := F) :=
  congrArg (Pipeline.defs _) bodies_eq

/-- … and so are their entry functions. -/
theorem main_eq : Cert.Kernel.main (F := F) = Cert.KernelIdeal.main (F := F) := rfl

end Cert.SameProgram

end
-- ==== Proof.lean ====
/-
  The claims of this certificate, assembled. The kernel and the reference each end with the transposed one-hot encoding
  of their argument (Proof/KernelValue.lean, Proof/ReferenceValue.lean), at any reading of floats under which a truth
  value converts alike through a signed word and directly (Proof/OneHot.lean): the extended reals are such a reading,
  and so are the float words. The frames are the generated ones.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference.Run
public import proofs.«01_k».proof.Proof.KernelValue
public import proofs.«01_k».proof.Proof.ReferenceValue
public import proofs.«01_k».proof.Proof.SameProgram
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.OneHot

/-- The reference runs, leaves its argument unchanged, and declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The same of the reference over the extended reals. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals kernel and reference compute the same function: the encoding. -/
theorem algebraic : Cert.algebraic_KernelIdeal_ReferenceIdeal := fun m ρ m' ρ' _ hagree =>
  ⟨fun c => encoding (F := Ideal) (m ((c : Thread Cert.KernelIdeal.nD Cert.KernelIdeal.τ).loc Cert.KernelIdeal.main_arg0)),
    Cert.KernelIdeal.Encodes.run m ρ bitConverts_ideal,
    (θ_run Cert.ReferenceIdeal.defs _ _).mono (fun _ h c => ⟨(h c).1.trans (congrArg encoding (hagree c)), (h c).2⟩)
      (Cert.ReferenceIdeal.Encodes.run (F := Ideal) m' ρ')⟩

/-- Kernel and reference end with the same float words. No operation is rewritten for the extended reals, so the
    programs are the ones that the value theorems speak of, read at the float words. -/
theorem bitexact : Cert.bitexact_Kernel_Reference := fun m ρ m' ρ' _ hagree =>
  ⟨fun c => encoding (F := Bits) (m ((c : Thread Cert.Kernel.nD Cert.Kernel.τ).loc Cert.Kernel.main_arg0)),
    by rw [Cert.SameProgram.defs_eq, Cert.SameProgram.main_eq]
       exact Cert.KernelIdeal.Encodes.run (F := Bits) m ρ bitConverts_bits,
    (θ_run Cert.Reference.defs _ _).mono (fun _ h c => ⟨(h c).1.trans (congrArg encoding (hagree c)), (h c).2⟩)
      (Cert.ReferenceIdeal.Encodes.run (F := Bits) m' ρ')⟩

/-- Everything that the certificate claims. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    frame_reference, frame_reference_ideal, trivial, algebraic, bitexact⟩

end Cert.Proof

end
